-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "weight" .f32 0x342AAAAB#32 ((1 / 6291456 : ℝ) : EReal)
  ∧ IdealRules.named_const.Statement Cert.KernelIdeal.κ "double_weight" .f32 0x34AAAAAB#32 ((1 / 3145728 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x130x3 : Shape := ⟨3, ![16384, 130, 3]⟩
abbrev S3x130x16384 : Shape := ⟨3, ![3, 130, 16384]⟩
abbrev S1x1 : Shape := ⟨2, ![1, 1]⟩
abbrev S3x130x2048 : Shape := ⟨3, ![3, 130, 2048]⟩
abbrev S3x129x2048 : Shape := ⟨3, ![3, 129, 2048]⟩
abbrev S1x129x2048 : Shape := ⟨3, ![1, 129, 2048]⟩
abbrev S129x2048 : Shape := ⟨2, ![129, 2048]⟩
abbrev S3x128x2048 : Shape := ⟨3, ![3, 128, 2048]⟩
abbrev S1x128x2048 : Shape := ⟨3, ![1, 128, 2048]⟩
abbrev S128x2048 : Shape := ⟨2, ![128, 2048]⟩
abbrev S129x1 : Shape := ⟨2, ![129, 1]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 4
  | .smem => 1
  | _ => 0

abbrev bufTy : (tb : Table) → Fin (tcTables nBuf tb) → BufTy
  | .hbm, ⟨0, _⟩ => ⟨S16384x130x3, .f32⟩
  | .hbm, ⟨1, _⟩ => ⟨S16384x130x3, .f32⟩
  | .hbm, ⟨2, _⟩ => ⟨S3x130x16384, .f32⟩
  | .hbm, ⟨3, _⟩ => ⟨S3x130x16384, .f32⟩
  | .hbm, ⟨4, _⟩ => ⟨S1x1, .f32⟩
  | .hbm, ⟨5, _⟩ => ⟨S_, .f32⟩
  | .local _ .vmem, ⟨0, _⟩ => ⟨S3x130x2048, .f32⟩
  | .local _ .vmem, ⟨1, _⟩ => ⟨S3x130x2048, .f32⟩
  | .local _ .vmem, ⟨2, _⟩ => ⟨S3x130x2048, .f32⟩
  | .local _ .vmem, ⟨3, _⟩ => ⟨S3x130x2048, .f32⟩
  | .local _ .smem, ⟨0, _⟩ => ⟨S1x1, .f32⟩
  | _, _ => ⟨S16384x130x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x130x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x130x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "double_weight" => some ((1 / 3145728 : ℝ) : EReal)
  | "weight" => some ((1 / 6291456 : ℝ) : EReal)
  | _ => none
-- ==== ReferenceIdeal.lean ====
abbrev S16384x130x3 : Shape := ⟨3, ![16384, 130, 3]⟩
abbrev S128x3 : Shape := ⟨2, ![128, 3]⟩
abbrev S128x1 : Shape := ⟨2, ![128, 1]⟩
abbrev S128 : Shape := ⟨1, ![128]⟩
abbrev S_ : Shape := ⟨0, ![]⟩
abbrev S16384x128x3 : Shape := ⟨3, ![16384, 128, 3]⟩
abbrev S16384x128 : Shape := ⟨2, ![16384, 128]⟩
abbrev S16384x128x1 : Shape := ⟨3, ![16384, 128, 1]⟩
abbrev S16384x384x1 : Shape := ⟨3, ![16384, 384, 1]⟩

abbrev nBuf : Space → Nat
  | .hbm => 182
  | .vmem => 0
  | .smem => 0
  | _ => 0

abbrev hbmTy0_0 (i : Nat) : BufTy := match i % 128 with
  | 0 => ⟨S16384x130x3, .f32⟩
  | 1 => ⟨S16384x130x3, .f32⟩
  | 2 => ⟨S128x3, .i32⟩
  | 3 => ⟨S128x1, .i32⟩
  | 4 => ⟨S128, .i32⟩
  | 5 => ⟨S_, .i32⟩
  | 6 => ⟨S128, .i32⟩
  | 7 => ⟨S128, .i1⟩
  | 8 => ⟨S_, .i32⟩
  | 9 => ⟨S128, .i32⟩
  | 10 => ⟨S128, .i32⟩
  | 11 => ⟨S128, .i32⟩
  | 12 => ⟨S128x1, .i32⟩
  | 13 => ⟨S16384x128x3, .f32⟩
  | 14 => ⟨S128x1, .i32⟩
  | 15 => ⟨S128, .i32⟩
  | 16 => ⟨S_, .i32⟩
  | 17 => ⟨S128, .i32⟩
  | 18 => ⟨S128, .i1⟩
  | 19 => ⟨S_, .i32⟩
  | 20 => ⟨S128, .i32⟩
  | 21 => ⟨S128, .i32⟩
  | 22 => ⟨S128, .i32⟩
  | 23 => ⟨S128x1, .i32⟩
  | 24 => ⟨S16384x128x3, .f32⟩
  | 25 => ⟨S16384x128x3, .f32⟩
  | 26 => ⟨S16384x128x3, .f32⟩
  | 27 => ⟨S_, .f32⟩
  | 28 => ⟨S16384x128, .f32⟩
  | 29 => ⟨S16384x128x1, .f32⟩
  | 30 => ⟨S16384x128x1, .f32⟩
  | 31 => ⟨S128x1, .i32⟩
  | 32 => ⟨S128, .i32⟩
  | 33 => ⟨S_, .i32⟩
  | 34 => ⟨S128, .i32⟩
  | 35 => ⟨S128, .i1⟩
  | 36 => ⟨S_, .i32⟩
  | 37 => ⟨S128, .i32⟩
  | 38 => ⟨S128, .i32⟩
  | 39 => ⟨S128, .i32⟩
  | 40 => ⟨S128x1, .i32⟩
  | 41 => ⟨S16384x128x3, .f32⟩
  | 42 => ⟨S128x1, .i32⟩
  | 43 => ⟨S128, .i32⟩
  | 44 => ⟨S_, .i32⟩
  | 45 => ⟨S128, .i32⟩
  | 46 => ⟨S128, .i1⟩
  | 47 => ⟨S_, .i32⟩
  | 48 => ⟨S128, .i32⟩
  | 49 => ⟨S128, .i32⟩
  | 50 => ⟨S128, .i32⟩
  | 51 => ⟨S128x1, .i32⟩
  | 52 => ⟨S16384x128x3, .f32⟩
  | 53 => ⟨S16384x128x3, .f32⟩
  | 54 => ⟨S16384x128x3, .f32⟩
  | 55 => ⟨S_, .f32⟩
  | 56 => ⟨S16384x128, .f32⟩
  | 57 => ⟨S16384x128x1, .f32⟩
  | 58 => ⟨S16384x128x1, .f32⟩
  | 59 => ⟨S128x1, .i32⟩
  | 60 => ⟨S128, .i32⟩
  | 61 => ⟨S_, .i32⟩
  | 62 => ⟨S128, .i32⟩
  | 63 => ⟨S128, .i1⟩
  | 64 => ⟨S_, .i32⟩
  | 65 => ⟨S128, .i32⟩
  | 66 => ⟨S128, .i32⟩
  | 67 => ⟨S128, .i32⟩
  | 68 => ⟨S128x1, .i32⟩
  | 69 => ⟨S16384x128x3, .f32⟩
  | 70 => ⟨S128x1, .i32⟩
  | 71 => ⟨S128, .i32⟩
  | 72 => ⟨S_, .i32⟩
  | 73 => ⟨S128, .i32⟩
  | 74 => ⟨S128, .i1⟩
  | 75 => ⟨S_, .i32⟩
  | 76 => ⟨S128, .i32⟩
  | 77 => ⟨S128, .i32⟩
  | 78 => ⟨S128, .i32⟩
  | 79 => ⟨S128x1, .i32⟩
  | 80 => ⟨S16384x128x3, .f32⟩
  | 81 => ⟨S16384x128x3, .f32⟩
  | 82 => ⟨S16384x128x3, .f32⟩
  | 83 => ⟨S_, .f32⟩
  | 84 => ⟨S16384x128, .f32⟩
  | 85 => ⟨S16384x128x1, .f32⟩
  | 86 => ⟨S16384x128x1, .f32⟩
  | 87 => ⟨S128x1, .i32⟩
  | 88 => ⟨S128, .i32⟩
  | 89 => ⟨S_, .i32⟩
  | 90 => ⟨S128, .i32⟩
  | 91 => ⟨S128, .i1⟩
  | 92 => ⟨S_, .i32⟩
  | 93 => ⟨S128, .i32⟩
  | 94 => ⟨S128, .i32⟩
  | 95 => ⟨S128, .i32⟩
  | 96 => ⟨S128x1, .i32⟩
  | 97 => ⟨S16384x128x3, .f32⟩
  | 98 => ⟨S128x1, .i32⟩
  | 99 => ⟨S128, .i32⟩
  | 100 => ⟨S_, .i32⟩
  | 101 => ⟨S128, .i32⟩
  | 102 => ⟨S128, .i1⟩
  | 103 => ⟨S_, .i32⟩
  | 104 => ⟨S128, .i32⟩
  | 105 => ⟨S128, .i32⟩
  | 106 => ⟨S128, .i32⟩
  | 107 => ⟨S128x1, .i32⟩
  | 108 => ⟨S16384x128x3, .f32⟩
  | 109 => ⟨S16384x128x3, .f32⟩
  | 110 => ⟨S16384x128x3, .f32⟩
  | 111 => ⟨S_, .f32⟩
  | 112 => ⟨S16384x128, .f32⟩
  | 113 => ⟨S16384x128x1, .f32⟩
  | 114 => ⟨S16384x128x1, .f32⟩
  | 115 => ⟨S128x1, .i32⟩
  | 116 => ⟨S128, .i32⟩
  | 117 => ⟨S_, .i32⟩
  | 118 => ⟨S128, .i32⟩
  | 119 => ⟨S128, .i1⟩
  | 120 => ⟨S_, .i32⟩
  | 121 => ⟨S128, .i32⟩
  | 122 => ⟨S128, .i32⟩
  | 123 => ⟨S128, .i32⟩
  | 124 => ⟨S128x1, .i32⟩
  | 125 => ⟨S16384x128x3, .f32⟩
  | 126 => ⟨S128x1, .i32⟩
  | 127 => ⟨S128, .i32⟩
  | _ => ⟨S16384x130x3, .f32⟩

abbrev hbmTy0_1 (i : Nat) : BufTy := match i % 128 with
  | 0 => ⟨S_, .i32⟩
  | 1 => ⟨S128, .i32⟩
  | 2 => ⟨S128, .i1⟩
  | 3 => ⟨S_, .i32⟩
  | 4 => ⟨S128, .i32⟩
  | 5 => ⟨S128, .i32⟩
  | 6 => ⟨S128, .i32⟩
  | 7 => ⟨S128x1, .i32⟩
  | 8 => ⟨S16384x128x3, .f32⟩
  | 9 => ⟨S16384x128x3, .f32⟩
  | 10 => ⟨S16384x128x3, .f32⟩
  | 11 => ⟨S_, .f32⟩
  | 12 => ⟨S16384x128, .f32⟩
  | 13 => ⟨S16384x128x1, .f32⟩
  | 14 => ⟨S16384x128x1, .f32⟩
  | 15 => ⟨S128x1, .i32⟩
  | 16 => ⟨S128, .i32⟩
  | 17 => ⟨S_, .i32⟩
  | 18 => ⟨S128, .i32⟩
  | 19 => ⟨S128, .i1⟩
  | 20 => ⟨S_, .i32⟩
  | 21 => ⟨S128, .i32⟩
  | 22 => ⟨S128, .i32⟩
  | 23 => ⟨S128, .i32⟩
  | 24 => ⟨S128x1, .i32⟩
  | 25 => ⟨S16384x128x3, .f32⟩
  | 26 => ⟨S128x1, .i32⟩
  | 27 => ⟨S128, .i32⟩
  | 28 => ⟨S_, .i32⟩
  | 29 => ⟨S128, .i32⟩
  | 30 => ⟨S128, .i1⟩
  | 31 => ⟨S_, .i32⟩
  | 32 => ⟨S128, .i32⟩
  | 33 => ⟨S128, .i32⟩
  | 34 => ⟨S128, .i32⟩
  | 35 => ⟨S128x1, .i32⟩
  | 36 => ⟨S16384x128x3, .f32⟩
  | 37 => ⟨S16384x128x3, .f32⟩
  | 38 => ⟨S16384x128x3, .f32⟩
  | 39 => ⟨S_, .f32⟩
  | 40 => ⟨S16384x128, .f32⟩
  | 41 => ⟨S16384x128x1, .f32⟩
  | 42 => ⟨S16384x128x1, .f32⟩
  | 43 => ⟨S16384x128x1, .f32⟩
  | 44 => ⟨S16384x128x1, .f32⟩
  | 45 => ⟨S16384x128x1, .f32⟩
  | 46 => ⟨S16384x128x1, .f32⟩
  | 47 => ⟨S16384x128x1, .f32⟩
  | 48 => ⟨S16384x128x1, .f32⟩
  | 49 => ⟨S16384x384x1, .f32⟩
  | 50 => ⟨S_, .f32⟩
  | 51 => ⟨S_, .f32⟩
  | 52 => ⟨S_, .f32⟩
  | 53 => ⟨S_, .f32⟩
  | _ => ⟨S16384x130x3, .f32⟩

abbrev hbmTy (i : Nat) : BufTy := match i / 128 with
  | 0 => hbmTy0_0 i
  | 1 => hbmTy0_1 i
  | _ => ⟨S16384x130x3, .f32⟩

abbrev bufTy : (tb : Table) → Fin (tcTables nBuf tb) → BufTy
  | .hbm, ⟨i, _⟩ => hbmTy i
  | _, _ => ⟨S16384x130x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_6 : Ref sig .tc := ⟨.hbm, 44, rfl⟩
abbrev main_v34 : Ref sig .tc := ⟨.hbm, 45, rfl⟩
abbrev main_v35 : Ref sig .tc := ⟨.hbm, 46, rfl⟩
abbrev main_c_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_9 : Ref sig .tc := ⟨.hbm, 61, rfl⟩
abbrev main_v48 : Ref sig .tc := ⟨.hbm, 62, rfl⟩
abbrev main_v49 : Ref sig .tc := ⟨.hbm, 63, rfl⟩
abbrev main_c_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c_11 : Ref sig .tc := ⟨.hbm, 72, rfl⟩
abbrev main_v57 : Ref sig .tc := ⟨.hbm, 73, rfl⟩
abbrev main_v58 : Ref sig .tc := ⟨.hbm, 74, rfl⟩
abbrev main_c_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_c_14 : Ref sig .tc := ⟨.hbm, 89, rfl⟩
abbrev main_v71 : Ref sig .tc := ⟨.hbm, 90, rfl⟩
abbrev main_v72 : Ref sig .tc := ⟨.hbm, 91, rfl⟩
abbrev main_c_15 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_16 : Ref sig .tc := ⟨.hbm, 100, rfl⟩
abbrev main_v80 : Ref sig .tc := ⟨.hbm, 101, rfl⟩
abbrev main_v81 : Ref sig .tc := ⟨.hbm, 102, rfl⟩
abbrev main_c_17 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_18 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_c_19 : Ref sig .tc := ⟨.hbm, 117, rfl⟩
abbrev main_v94 : Ref sig .tc := ⟨.hbm, 118, rfl⟩
abbrev main_v95 : Ref sig .tc := ⟨.hbm, 119, rfl⟩
abbrev main_c_20 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_c_21 : Ref sig .tc := ⟨.hbm, 128, rfl⟩
abbrev main_v103 : Ref sig .tc := ⟨.hbm, 129, rfl⟩
abbrev main_v104 : Ref sig .tc := ⟨.hbm, 130, rfl⟩
abbrev main_c_22 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_23 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_c_24 : Ref sig .tc := ⟨.hbm, 145, rfl⟩
abbrev main_v117 : Ref sig .tc := ⟨.hbm, 146, rfl⟩
abbrev main_v118 : Ref sig .tc := ⟨.hbm, 147, rfl⟩
abbrev main_c_25 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_c_26 : Ref sig .tc := ⟨.hbm, 156, rfl⟩
abbrev main_v126 : Ref sig .tc := ⟨.hbm, 157, rfl⟩
abbrev main_v127 : Ref sig .tc := ⟨.hbm, 158, rfl⟩
abbrev main_c_27 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_28 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_cst_29 : Ref sig .tc := ⟨.hbm, 178, rfl⟩
abbrev main_v145 : Ref sig .tc := ⟨.hbm, 179, rfl⟩
abbrev main_cst_30 : Ref sig .tc := ⟨.hbm, 180, rfl⟩
abbrev main_v146 : Ref sig .tc := ⟨.hbm, 181, rfl⟩

abbrev nD : Nat := 1
abbrev τ : Topo := Topo.v7x

variable {F : FTy → Type} [FloatOps F]
-- ==== Proof.EdgeLoss.lean ====
/-
  The mathematics of the edge-length loss over the extended reals, with no program in sight.

  A mesh here is a strip: face `f` has the vertices `f`, `f + 1`, `f + 2`. The loss is the mean, over a batch of meshes and
  the three edges of every face, of the absolute difference of the edge's length in two meshes. An edge of step one inside
  the strip belongs to two faces, the first and the last one to a single face, and an edge of step two to one face. So the
  mean can be taken edge by edge instead of face by face, each edge weighted by the number of faces it belongs to:
  `weighted_edges` for one mesh, `blocks_eq_mean` for the batch cut in eight blocks of 2048 meshes. `meanGap` is the mean taken
  face by face, which the kernel and the reference are both proved to return.
-/
module

public import Idealize.ShloMosaic.PureOps.Ideal
public import Idealize.ShloMosaic.Lib.Pointwise
public import Mathlib.Algebra.BigOperators.Fin

@[expose] public section

noncomputable section

namespace Cert.EdgeLoss

open Idealize.ShloMosaic

/-! ## Edge lengths -/

/-- The distance between vertices `i` and `j` of a mesh whose coordinates are `p`. -/
def edge (p : Fin 130 → Fin 3 → EReal) (i j : Fin 130) : EReal :=
  Ideal.sqrt (∑ k : Fin 3, (p i k - p j k) * (p i k - p j k))

/-- The absolute value of a difference. -/
def dist (x y : EReal) : EReal := max (x - y) (-(x - y))

/-- How far apart the lengths of the edge from `i` to `j` are in the meshes `p` and `q`. -/
def gap (p q : Fin 130 → Fin 3 → EReal) (i j : Fin 130) : EReal := dist (edge p i j) (edge q i j)

/-- The square of a difference does not depend on the order, at the infinities too. -/
theorem sq_sub_comm (x y : EReal) : (x - y) * (x - y) = (y - x) * (y - x) := by
  induction x using EReal.rec <;> induction y using EReal.rec
  case coe.coe a b => exact_mod_cast congrArg (Real.toEReal) (show (a - b) * (a - b) = (b - a) * (b - a) by ring)
  all_goals simp [sub_eq_add_neg]

/-- An edge is as long from either end. -/
theorem edge_comm (p : Fin 130 → Fin 3 → EReal) (i j : Fin 130) : edge p i j = edge p j i := by
  unfold edge
  exact congrArg _ (Finset.sum_congr rfl fun k _ => sq_sub_comm _ _)

/-- The difference of two lengths of an edge does not depend on the end it is measured from. -/
theorem gap_comm (p q : Fin 130 → Fin 3 → EReal) (i j : Fin 130) : gap p q i j = gap p q j i := by
  unfold gap
  rw [edge_comm p, edge_comm q]

/-- The length difference of the edge of step one from vertex `r`. -/
def gap1 (p q : Fin 130 → Fin 3 → EReal) (r : Fin 129) : EReal := gap p q r.succ r.castSucc

/-- The length difference of the edge of step two from vertex `r`. -/
def gap2 (p q : Fin 130 → Fin 3 → EReal) (r : Fin 128) : EReal := gap p q r.succ.succ r.castSucc.castSucc

/-! ## The weights -/

/-- The weight of one edge of one face in the mean: one over 16384 meshes times 384 edges. -/
def w : EReal := ((1 / 6291456 : ℝ) : EReal)

/-- Twice that weight. -/
def w2 : EReal := ((1 / 3145728 : ℝ) : EReal)

/-- The weight is not negative. -/
theorem w_nonneg : 0 ≤ w := by
  unfold w
  exact_mod_cast (by norm_num : (0 : ℝ) ≤ 1 / 6291456)

/-- The weight is finite. -/
theorem w_ne_top : w ≠ ⊤ := EReal.coe_ne_top _

/-- The double weight is the weight added to itself. -/
theorem w2_eq : w2 = w + w := by
  unfold w w2
  exact_mod_cast congrArg Real.toEReal (by norm_num : (1 / 3145728 : ℝ) = 1 / 6291456 + 1 / 6291456)

/-- The double weight counts a term twice. -/
theorem mul_w2 (x : EReal) : x * w2 = x * w + x * w := by
  rw [w2_eq, EReal.left_distrib_of_nonneg w_nonneg w_nonneg]

/-- Multiplying by the weight distributes over a sum: the weight is a nonnegative real. -/
theorem add_mul_w (x y : EReal) : (x + y) * w = x * w + y * w :=
  EReal.right_distrib_of_nonneg_of_ne_top w_nonneg w_ne_top x y

/-- The same over a finite sum. -/
theorem sum_mul_w {ι : Type*} (s : Finset ι) (f : ι → EReal) : (∑ i ∈ s, f i) * w = ∑ i ∈ s, f i * w := by
  classical
  induction s using Finset.induction_on with
  | empty => simp
  | insert a s ha ih => rw [Finset.sum_insert ha, Finset.sum_insert ha, add_mul_w, ih]

/-- The weight of the edge of step one from vertex `r`: single at the two ends of the strip, double between. -/
def rowWeight (r : Fin 129) : EReal := if r = 0 ∨ r = Fin.last 128 then w else w2

/-- A term times its row's weight: counted once at the ends and twice between. -/
theorem mul_rowWeight (x : EReal) (r : Fin 129) :
    x * rowWeight r = if r = 0 ∨ r = Fin.last 128 then x * w else x * w + x * w := by
  unfold rowWeight
  split
  · rfl
  · exact mul_w2 x

/-! ## The equation -/

/-- Single weight at the ends and double between is the sum over the faces of both their edges of step one. -/
theorem weighted_edges (d : Fin 129 → EReal) :
    ∑ r, d r * rowWeight r = (∑ f : Fin 128, d f.castSucc) * w + (∑ f : Fin 128, d f.succ) * w := by
  rw [sum_mul_w, sum_mul_w, Fin.sum_univ_succ, Fin.sum_univ_castSucc (n := 127),
    Fin.sum_univ_succ (fun f : Fin 128 => d f.castSucc * w), Fin.sum_univ_castSucc (fun f : Fin 128 => d f.succ * w)]
  have mid : ∀ i : Fin 127, d i.castSucc.succ * rowWeight i.castSucc.succ
      = d i.succ.castSucc * w + d i.castSucc.succ * w := by
    intro i
    have hi := i.isLt
    rw [mul_rowWeight, if_neg (by simp only [Fin.ext_iff, Fin.val_succ, Fin.val_castSucc, Fin.val_last, Fin.val_zero]; omega)]
    rw [Fin.succ_castSucc]
  rw [Finset.sum_congr rfl fun i _ => mid i, Finset.sum_add_distrib, mul_rowWeight, if_pos (Or.inl rfl), Fin.succ_last,
    mul_rowWeight, if_pos (Or.inr rfl)]
  show _ + (_ + _ + d (Fin.last 128) * w) = d 0 * w + _ + (_ + d (Fin.last 128) * w)
  ac_rfl

/-- Mesh `l` of block `t`. -/
def mesh (t : Fin 8) (l : Fin 2048) : Fin 16384 := ⟨2048 * t.val + l.val, by have := t.isLt; have := l.isLt; omega⟩

/-- A sum over the batch is the sum over its eight blocks of the sums over the blocks. -/
theorem sum_mesh (f : Fin 16384 → EReal) : ∑ b, f b = ∑ t, ∑ l, f (mesh t l) := by
  rw [← Fintype.sum_prod_type' fun t l => f (mesh t l)]
  refine (Fintype.sum_equiv (finProdFinEquiv (m := 8) (n := 2048)) _ _ fun x => ?_).symm
  refine congrArg f (Fin.ext ?_)
  show 2048 * x.1.val + x.2.val = x.2.val + 2048 * x.1.val
  omega

/-- What one block adds to the loss: its step-one gaps `d1` with the weights of their rows, and its step-two gaps `d2`
    summed and then weighted. -/
def blockLoss (d1 : Fin 2048 → Fin 129 → EReal) (d2 : Fin 2048 → Fin 128 → EReal) : EReal :=
  (∑ r, ∑ l, d1 l r * rowWeight r) + (∑ r, ∑ l, d2 l r) * w

/-- One block's part is the weighted sum over its meshes and their faces of the three edges' gaps. -/
theorem blockLoss_eq (d1 : Fin 2048 → Fin 129 → EReal) (d2 : Fin 2048 → Fin 128 → EReal) :
    blockLoss d1 d2 = (∑ l, (∑ f : Fin 128, d1 l f.castSucc + (∑ f : Fin 128, d2 l f + ∑ f : Fin 128, d1 l f.succ))) * w := by
  unfold blockLoss
  rw [Finset.sum_comm, Finset.sum_congr rfl fun l _ => weighted_edges (d1 l), Finset.sum_comm (f := fun r l => d2 l r),
    sum_mul_w, sum_mul_w, ← Finset.sum_add_distrib]
  refine Finset.sum_congr rfl fun l _ => ?_
  rw [add_mul_w, add_mul_w]
  ac_rfl

/-- THE EQUATION: the blocks' parts add up to the weighted sum over the whole batch of the gaps face by face. -/
theorem blocks_eq_mean (d1 : Fin 16384 → Fin 129 → EReal) (d2 : Fin 16384 → Fin 128 → EReal) :
    ∑ t : Fin 8, blockLoss (fun l => d1 (mesh t l)) (fun l => d2 (mesh t l))
      = (∑ b, (∑ f : Fin 128, d1 b f.castSucc + (∑ f : Fin 128, d2 b f + ∑ f : Fin 128, d1 b f.succ))) * w := by
  rw [sum_mesh, sum_mul_w]
  exact Finset.sum_congr rfl fun t _ => blockLoss_eq _ _

/-- The mean of the gaps over a batch of pairs of meshes: per mesh and face the gaps of the face's three edges — first to
    second vertex, first to third, second to third —, summed and divided by their number. -/
def meanGap (p q : Fin 16384 → Fin 130 → Fin 3 → EReal) : EReal :=
  (∑ b, (∑ f : Fin 128, gap1 (p b) (q b) f.castSucc
    + (∑ f : Fin 128, gap2 (p b) (q b) f + ∑ f : Fin 128, gap1 (p b) (q b) f.succ))) * w

/-- Mesh `b` of a batch: the coordinates of its vertices. -/
def batchMesh (x : (⟨3, ![16384, 130, 3]⟩ : Shape).Idx → EReal) (b : Fin 16384) (i : Fin 130) (k : Fin 3) : EReal := x (ix3 b i k)

end Cert.EdgeLoss

end
-- ==== Proof.BlockSum.lean ====
/-
  What the kernel's body computes at one point, at the ideal values: from the two loaded blocks, each of 2048 meshes laid out
  coordinate by vertex by mesh, and the running total, the total plus the block's part of the loss (`point_eq`).
-/
module

public import proofs.«01_k».proof.Proof.EdgeLoss
public import proofs.«01_k».proof.Proof.Gen.KernelIdeal.Skeleton
public import Idealize.ShloMosaic.Lib.Pointwise

@[expose] public section

set_option maxRecDepth 16384

noncomputable section

namespace Cert.KernelIdeal.Block

open Cert.KernelIdeal Cert.KernelIdeal.Gen Cert.EdgeLoss Idealize.ShloMosaic

/-- Mesh `l` of a block: its vertices' coordinates. -/
def meshOf (x : FVec Ideal S3x130x2048 .f32) (l : Fin 2048) (i : Fin 130) (k : Fin 3) : EReal := x (ix3 k i l)

/-- The constant named `weight` denotes one over the number of edges in the mean. -/
theorem weight_eq : Named.named (F := Ideal) κ "weight" (φ := .f32) 0x342AAAAB#32 = w :=
  IdealRules.named_const.ideal_named_scalar _ _ _ _ rfl

/-- The constant named `double_weight` denotes twice that. -/
theorem double_weight_eq : Named.named (F := Ideal) κ "double_weight" (φ := .f32) 0x34AAAAAB#32 = w2 :=
  IdealRules.named_const.ideal_named_scalar _ _ _ _ rfl

/-- The length of an edge, its three squared differences added from the first to the last. -/
theorem edge_eq (p : Fin 130 → Fin 3 → EReal) (i j : Fin 130) :
    edge p i j = Ideal.sqrt ((p i 0 - p j 0) * (p i 0 - p j 0) + (p i 1 - p j 1) * (p i 1 - p j 1)
      + (p i 2 - p j 2) * (p i 2 - p j 2)) := by
  unfold edge
  rw [Fin.sum_univ_three]

/-- The first vector computed from the two blocks holds the gaps of the edges of step one. -/
theorem pay4_apply (x y : FVec Ideal S3x130x2048 .f32) (r : Fin 129) (l : Fin 2048) :
    k0_pay4 (F := Ideal) x y (ix2 r l) = gap1 (meshOf x l) (meshOf y l) r := by
  have hr : ∀ h, (⟨1 + r.val, h⟩ : Fin 130) = r.succ := fun h => Fin.ext (Nat.add_comm 1 r.val)
  pointwise [k0_pay4, k0_pay2, k0_pay3]
  simp only [hr, gap1, gap, edge_eq]
  rfl

/-- The second one holds the gaps of the edges of step two. -/
theorem pay8_apply (x y : FVec Ideal S3x130x2048 .f32) (r : Fin 128) (l : Fin 2048) :
    k0_pay8 (F := Ideal) (k0_pay3 y) (k0_pay5 x) (k0_pay6 x) (ix3 0 r l) = gap2 (meshOf x l) (meshOf y l) r := by
  have hr : ∀ h, (⟨2 + r.val, h⟩ : Fin 130) = r.succ.succ := fun h => Fin.ext (Nat.add_comm 2 r.val)
  pointwise [k0_pay8, k0_pay2, k0_pay3, k0_pay5, k0_pay6]
  simp only [hr, gap2, gap, edge_eq]
  rfl

/-- The mask of the rows of single weight, read at a row: the row is the first one or the last one. -/
theorem mask_eq : ∀ r : Fin 129, IntOp.ori (IntOp.cmpi .eq (BitVec.ofNat 32 r.val) 0#32)
    (IntOp.cmpi .eq (BitVec.ofNat 32 r.val) 128#32) = if r = 0 ∨ r = Fin.last 128 then 1#1 else 0#1 := by
  decide +kernel

/-- The first sum: the vector's rows weighted by the number of faces their edges belong to. -/
theorem pay7_apply (v : FVec Ideal S129x2048 .f32) :
    k0_pay7 (F := Ideal) v = ∑ r : Fin 129, ∑ l : Fin 2048, v (ix2 r l) * rowWeight r := by
  unfold k0_pay7
  dsimp only
  pointwise
  refine Finset.sum_congr rfl fun r _ => Finset.sum_congr rfl fun l _ => congrArg _ ?_
  rw [mask_eq, weight_eq, double_weight_eq, rowWeight]
  split <;> rfl

/-- The second sum is weighted as a whole, and both are added to the running total. -/
theorem pay1_apply (a : EReal) (v : FVec Ideal S1x128x2048 .f32) (acc : EReal) :
    k0_pay1 (F := Ideal) a v acc = acc + (a + (∑ r : Fin 128, ∑ l : Fin 2048, v (ix3 0 r l)) * w) := by
  unfold k0_pay1
  dsimp only
  pointwise
  rw [weight_eq]

/-- What one point adds: the running total plus the loss of the point's two blocks. -/
theorem point_eq (x y : FVec Ideal S3x130x2048 .f32) (acc : EReal) :
    k0_pay1 (F := Ideal) (k0_pay7 (k0_pay4 x y)) (k0_pay8 (k0_pay3 y) (k0_pay5 x) (k0_pay6 x)) acc
      = acc + blockLoss (fun l => gap1 (meshOf x l) (meshOf y l)) (fun l => gap2 (meshOf x l) (meshOf y l)) := by
  rw [pay1_apply, pay7_apply]
  simp only [pay4_apply, pay8_apply]
  rfl

end Cert.KernelIdeal.Block

end
-- ==== Proof.KernelValue.lean ====
/-
  What the kernel's run leaves in its result, at the ideal values. The grid has eight points, each with a block of 2048
  meshes of either argument. The output's one block is a running total, started at zero by the first point (`out_first`) and
  added to by every point (`out_next`), so after point `n` it holds the sum of the parts of the points up to `n`
  (`total_eq`); it is written back after the last point, and the host reshapes the one-element array to a scalar. The result
  is the sum of the eight parts (`run`), each the loss of the meshes 2048 t to 2048 t + 2047 of the arguments (`part_eq`).
-/
module

public import proofs.«01_k».proof.Proof.BlockSum
public import proofs.«01_k».proof.Proof.Gen.KernelIdeal.Frame
public import Idealize.ShloMosaic.Lib.Pipeline.Value
public import Idealize.ShloMosaic.Lib.StableHlo.Run
public import Idealize.ShloMosaic.Lib.Tactic

@[expose] public section

set_option maxRecDepth 16384

noncomputable section

namespace Cert.KernelIdeal.Value

open Cert.KernelIdeal Cert.KernelIdeal.Gen Cert.KernelIdeal.Block Cert.EdgeLoss
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## One point -/

/-- The pair of zero offsets, as a constant function. -/
theorem zero2 : (![0, 0] : Fin 2 → Nat) = fun _ => 0 := by decide

/-- The triple of zero offsets, likewise. -/
theorem zero3 : (![0, 0, 0] : Fin 3 → Nat) = fun _ => 0 := by decide

/-- The loss of two blocks: what a point adds to the total. -/
abbrev added (x y : FVec Ideal S3x130x2048 .f32) : EReal :=
  blockLoss (fun l => gap1 (meshOf x l) (meshOf y l)) (fun l => gap2 (meshOf x l) (meshOf y l))

/-- A point after the first one leaves the total it found plus the loss of its two blocks. -/
theorem out_next (c : Dev nD) (i : grid0.Coords) (a1 : Memref sig .tc .vmem S3x130x2048 .f32) (h1 : a1.IsWhole)
    (a2 : Memref sig .tc .vmem S3x130x2048 .f32) (h2 : a2.IsWhole) (a3 : Memref sig .tc .smem S1x1 .f32) (h3 : a3.IsWhole)
    (hc : ¬cond0_0 i) (x y : Vec Ideal S3x130x2048 .f32) (o : Vec Ideal S1x1 .f32) (v : EReal) (ho : o = fun _ => v) :
    out0_B_2 (F := Ideal) c i a1 h1 a2 h2 a3 h3 hc x y o = fun _ => v + added x y := by
  unfold out0_B_2
  rw [View.read_writes_eq_canon _ _ _ (cover0_B_2 c i a1 h1 a2 h2 a3 h3 hc x y o)]
  unfold kernelRun0_B
  dsimp only
  sl_unfold_words
  rw [View.canon_unit_zero zero2]
  simp only [View.readAt_eq_ld, h1.read_unread, h2.read_unread, h3.read_unread, View.ld_unit_zero (S := S3x130x2048) zero3]
  subst ho
  exact funext fun _ => point_eq x y v

/-- The first point leaves the loss of its two blocks, whatever it found. -/
theorem out_first (c : Dev nD) (i : grid0.Coords) (a1 : Memref sig .tc .vmem S3x130x2048 .f32) (h1 : a1.IsWhole)
    (a2 : Memref sig .tc .vmem S3x130x2048 .f32) (h2 : a2.IsWhole) (a3 : Memref sig .tc .smem S1x1 .f32) (h3 : a3.IsWhole)
    (hc : cond0_0 i) (x y : Vec Ideal S3x130x2048 .f32) :
    out0_A_2 (F := Ideal) c i a1 h1 a2 h2 a3 h3 hc x y = fun _ => added x y := by
  unfold out0_A_2
  rw [View.read_writes_eq_canon _ _ _ (cover0_A_2 c i a1 h1 a2 h2 a3 h3 hc x y)]
  unfold kernelRun0_A
  dsimp only
  sl_unfold_words
  rw [View.canon_cons_unit_zero (S := S1x1) zero2]
  simp only [View.readAt_eq_ld, h1.read_unread, h2.read_unread, View.ld_unit_zero (S := S3x130x2048) zero3]
  refine funext fun _ => (point_eq x y _).trans ?_
  show Ideal.ofBits .f32 0x00000000#32 + added x y = added x y
  rw [Ideal.ofBits_zero_f32, zero_add]

/-! ## The running total -/

/-- The part of point `t`: the loss of the two blocks it loads. -/
def part (c : Dev nD) (t : Fin cfg0.N) : EReal := added (iblk m c 0 t) (iblk m c 1 t)

/-- After point `n` the output's block holds the sum of the parts of the points up to `n`. -/
theorem total_eq (c : Dev nD) : ∀ (n : ℕ) (h : n < cfg0.N),
    outsAt0 m c n h = fun _ => ∑ i : Fin (n + 1), part m c ⟨i.val, Nat.lt_of_le_of_lt (Nat.le_of_lt_succ i.isLt) h⟩
  | 0, h => by
    rw [Fin.sum_univ_one]
    exact (outsAt0_A m c ⟨0, h⟩ rfl).trans (out_first ..)
  | n + 1, h => by
    have hN : n + 1 < 8 := lt_of_lt_of_eq h N_0
    have hB : ¬(⟨n + 1, h⟩ : Fin cfg0.N).val % 8 = 0 := by dsimp only; omega
    rw [Fin.sum_univ_castSucc]
    exact (outsAt0_B m c ⟨n + 1, h⟩ hB).trans (out_next _ _ _ _ _ _ _ _ _ _ _ _ _ (total_eq c n (Nat.lt_of_succ_lt h)))

/-- The loss: the sum of the eight parts. -/
def loss (c : Dev nD) : EReal := ∑ i : Fin 8, part m c ⟨i.val, lt_of_lt_of_eq i.isLt N_0.symm⟩

/-- The same as the contents of the output's one-element array. -/
def lossArray (c : Dev nD) : Buf (Elt Ideal) ((c : Thread nD τ).loc main_v2) := fun _ => loss m c

/-- The one write-back, after the last point, writes the loss. -/
theorem written (c : Dev nD) (t : Fin cfg0.N) (hf : (cfg0.win 2).flush t = true) :
    (dats m 0 c).flushed 2 t = ((cfg0.win 2).blk t).view.read (Elt Ideal) (lossArray m c) := by
  have ht : t.val = 7 := by
    have := (flush0_2 t).mp hf
    have : t.val < 8 := lt_of_lt_of_eq t.isLt N_0
    omega
  obtain rfl : t = ⟨7, lt_of_lt_of_eq (by decide) N_0.symm⟩ := Fin.ext ht
  show (cfg0.win 2).cut (grid0.coords _) ((dats m 0 c).after 2 _) = _
  rw [after0_2, total_eq]
  rfl

/-- So the array ends holding the loss: its one element lies in the block written back. -/
theorem final (c : Dev nD) : (dats m 0 c).arrAt 2 cfg0.N = lossArray m c :=
  (dats m 0 c).arrAt_eq_of_cover 2 (lossArray m c) (written m c) fun i =>
    ⟨t0_7, (flush0_2 t0_7).mpr rfl, by
      show i ∈ ((View.whole main_v2).slice (win0_2.rect t0_7)).set
      rw [View.set_slice_whole, Rect.mem_set_unit]
      have h0 : (i 0 : Nat) < 1 := (i 0).isLt
      have h1 : (i 1 : Nat) < 1 := (i 1).isLt
      intro a
      match a with
      | ⟨0, _⟩ =>
        show win0_2.index t0_7 0 * win0_2.size 0 ≤ (i 0 : Nat)
          ∧ (i 0 : Nat) < win0_2.index t0_7 0 * win0_2.size 0 + win0_2.xsize (grid0.coords t0_7) 0
        rw [show win0_2.index t0_7 0 * win0_2.size 0 = 0 from by decide +kernel,
          show win0_2.xsize (grid0.coords t0_7) 0 = 1 from by decide +kernel]
        omega
      | ⟨1, _⟩ =>
        show win0_2.index t0_7 1 * win0_2.size 1 ≤ (i 1 : Nat)
          ∧ (i 1 : Nat) < win0_2.index t0_7 1 * win0_2.size 1 + win0_2.xsize (grid0.coords t0_7) 1
        rw [show win0_2.index t0_7 1 * win0_2.size 1 = 0 from by decide +kernel,
          show win0_2.xsize (grid0.coords t0_7) 1 = 1 from by decide +kernel]
        omega⟩

/-- The host's line after the region reshapes the array to a scalar: the result holds the loss. -/
theorem exit_v3 (c : Dev nD) :
    Pipeline.afterTail₀ cfgs (dats m) 0 (V0 m) [hostOps1] c main_v3 = fun _ => loss m c := by
  unfold Pipeline.afterTail₀
  simp only [hostOps1, List.flatten_cons, List.flatten_nil, List.append_nil, List.cons_append, List.nil_append]
  after_results_simp
  have h : Pipeline.withArrays (cfgs 0).spec c (V0 m c) (fun w => (dats m 0 c).arrAt w (cfgs 0).N)
      (Proc.devRef .tc main_v2) = lossArray m c :=
    (Pipeline.withArrays_arr (cfgs 0).spec launch0.win.arr_inj c _ _ 2).trans (final m c)
  funext i
  exact (congrArg (fun x : Buf (Elt Ideal) ((c : Thread nD τ).loc main_v2) =>
    shapeCast S_ x shapeCasts_S1x1_S_ i) h).trans rfl

/-- The run, read: the result is the loss and the arguments are unchanged. -/
theorem run : θ_run defs (onTc (τ := τ) (main (F := Ideal))) ⟨m, fun _ => 0, ρ⟩ fun r => ∀ c : Dev nD,
      r.2.mem ((c.tc : Thread nD τ).loc main_v3) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (exit_v3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-! ## The blocks in terms of the arguments -/

/-- The host's lines before the region leave the first argument with its axes in the opposite order. -/
theorem entry_v0 (c : Dev nD) : V m c main_v0
    = transpose S3x130x16384 [2, 1, 0] (m ((c : Thread nD τ).loc main_arg0)) transposes_S16384x130x3_S3x130x16384_2_1_0 := by
  show StableHlo.after (List.flatten [hostOps0]) (fun b => m (c, b)) (Proc.devRef .tc main_v0) = _
  simp only [hostOps0, List.flatten_cons, List.flatten_nil, List.append_nil, List.cons_append, List.nil_append]
  after_results_simp

/-- And the second argument likewise. -/
theorem entry_v1 (c : Dev nD) : V m c main_v1
    = transpose S3x130x16384 [2, 1, 0] (m ((c : Thread nD τ).loc main_arg1)) transposes_S16384x130x3_S3x130x16384_2_1_0 := by
  show StableHlo.after (List.flatten [hostOps0]) (fun b => m (c, b)) (Proc.devRef .tc main_v1) = _
  simp only [hostOps0, List.flatten_cons, List.flatten_nil, List.append_nil, List.cons_append, List.nil_append]
  after_results_simp

/-- Where the first window's block lies at point `t`: whole in coordinates and vertices, block `t` of the meshes. -/
theorem index_0 : ∀ t : Fin cfg0.N, win0_0.index t 0 = 0 ∧ win0_0.index t 1 = 0 ∧ win0_0.index t 2 = t.val := by
  intro t
  rcases fin_N0 t with rfl | rfl | rfl | rfl | rfl | rfl | rfl | rfl <;> decide +kernel

/-- The second window's block lies there too. -/
theorem index_1 : ∀ t : Fin cfg0.N, win0_1.index t 0 = 0 ∧ win0_1.index t 1 = 0 ∧ win0_1.index t 2 = t.val := by
  intro t
  rcases fin_N0 t with rfl | rfl | rfl | rfl | rfl | rfl | rfl | rfl <;> decide +kernel

/-- Mesh `l` of the first block of point `t` is mesh `2048 t + l` of the first argument. -/
theorem block_0 (c : Dev nD) (t : Fin 8) (l : Fin 2048) :
    meshOf (iblk m c 0 ⟨t.val, lt_of_lt_of_eq t.isLt N_0.symm⟩) l = batchMesh (m ((c : Thread nD τ).loc main_arg0)) (mesh t l) := by
  funext i k
  unfold meshOf batchMesh iblk
  rw [View.read_apply]
  show V m c main_v0 _ = _
  rw [entry_v0]
  obtain ⟨h0, h1, h2⟩ := index_0 ⟨t.val, lt_of_lt_of_eq t.isLt N_0.symm⟩
  dsimp only at h2
  refine transpose_apply _ _ _ _ _ fun a => ?_
  match a with
  | ⟨0, _⟩ =>
    show (k : Nat) = win0_0.index _ 0 * 3 + 1 * (k : Nat)
    omega
  | ⟨1, _⟩ =>
    show (i : Nat) = win0_0.index _ 1 * 130 + 1 * (i : Nat)
    omega
  | ⟨2, _⟩ =>
    show 2048 * (t : Nat) + (l : Nat) = win0_0.index _ 2 * 2048 + 1 * (l : Nat)
    omega

/-- And of the second block, of the second argument. -/
theorem block_1 (c : Dev nD) (t : Fin 8) (l : Fin 2048) :
    meshOf (iblk m c 1 ⟨t.val, lt_of_lt_of_eq t.isLt N_0.symm⟩) l = batchMesh (m ((c : Thread nD τ).loc main_arg1)) (mesh t l) := by
  funext i k
  unfold meshOf batchMesh iblk
  rw [View.read_apply]
  show V m c main_v1 _ = _
  rw [entry_v1]
  obtain ⟨h0, h1, h2⟩ := index_1 ⟨t.val, lt_of_lt_of_eq t.isLt N_0.symm⟩
  dsimp only at h2
  refine transpose_apply _ _ _ _ _ fun a => ?_
  match a with
  | ⟨0, _⟩ =>
    show (k : Nat) = win0_1.index _ 0 * 3 + 1 * (k : Nat)
    omega
  | ⟨1, _⟩ =>
    show (i : Nat) = win0_1.index _ 1 * 130 + 1 * (i : Nat)
    omega
  | ⟨2, _⟩ =>
    show 2048 * (t : Nat) + (l : Nat) = win0_1.index _ 2 * 2048 + 1 * (l : Nat)
    omega

/-- The part of point `t` is the loss of its 2048 meshes of the two batches. -/
theorem part_eq (c : Dev nD) (t : Fin 8) :
    part m c ⟨t.val, lt_of_lt_of_eq t.isLt N_0.symm⟩
      = blockLoss
          (fun l => gap1 (batchMesh (m ((c : Thread nD τ).loc main_arg0)) (mesh t l)) (batchMesh (m ((c : Thread nD τ).loc main_arg1)) (mesh t l)))
          (fun l => gap2 (batchMesh (m ((c : Thread nD τ).loc main_arg0)) (mesh t l)) (batchMesh (m ((c : Thread nD τ).loc main_arg1)) (mesh t l))) := by
  unfold part added
  simp only [block_0, block_1]

/-- The kernel's loss is the mean, over the batch, of the gaps between the lengths of the edges of the two meshes: the
    three edges of each face counted, so the first and last edges along the strip once and those between them twice. -/
theorem loss_eq (c : Dev nD) :
    loss m c = meanGap (batchMesh (m ((c : Thread nD τ).loc main_arg0))) (batchMesh (m ((c : Thread nD τ).loc main_arg1))) :=
  (Finset.sum_congr rfl fun t _ => part_eq m c t).trans
    (blocks_eq_mean (fun b => gap1 (batchMesh (m ((c : Thread nD τ).loc main_arg0)) b) (batchMesh (m ((c : Thread nD τ).loc main_arg1)) b))
      (fun b => gap2 (batchMesh (m ((c : Thread nD τ).loc main_arg0)) b) (batchMesh (m ((c : Thread nD τ).loc main_arg1)) b)))

end Cert.KernelIdeal.Value

end
-- ==== Proof.RefValue.lean ====
/-
  The reference's result at the ideal values: the mean, over the batch and the three edges of every face, of the gaps between
  the edge lengths of the two meshes (`result_eq`).

  The reference looks the vertices of a face up in a table. Column `a` of the table holds `f + a` at face `f`
  (`wrapped_apply`), so the look-up of column `a` reads vertex `f + a` (`vertices_apply`).
-/
module

public import proofs.«01_k».proof.Proof.EdgeLoss
public import proofs.«01_k».proof.Proof.Gen.ReferenceIdeal.Run
public import Idealize.ShloMosaic.Lib.Pointwise

@[expose] public section

set_option maxRecDepth 16384

noncomputable section

namespace Cert.ReferenceIdeal.Loss

open Cert.ReferenceIdeal Cert.ReferenceIdeal.Gen Cert.EdgeLoss Idealize.ShloMosaic

/-! ## The reference's steps, named -/

/-- The table of faces. -/
def face : IVec S128x3 32 := fun i => lit0 (S128x3.rowMajor i)

/-- The first vertex of every face. -/
def first : IVec S128 32 := shapeCast _ (extractStridedSlice S128x1 ![0, 0] face slices_S128x3_S128x1_0_0) shapeCasts_S128x1_S128

/-- The second. -/
def second : IVec S128 32 := shapeCast _ (extractStridedSlice S128x1 ![0, 1] face slices_S128x3_S128x1_0_1) shapeCasts_S128x1_S128

/-- The third. -/
def third : IVec S128 32 := shapeCast _ (extractStridedSlice S128x1 ![0, 2] face slices_S128x3_S128x1_0_2) shapeCasts_S128x1_S128

/-- A column of vertex numbers as the look-up takes it: negative numbers would count from the end. -/
def wrapped (col : IVec S128 32) : IVec S128x1 32 :=
  broadcastInDim S128x1 ![0] bcast_S128_S128x1_0
    (select (cmpi .slt col (broadcastInDim S128 ![] bcast_S_S128 (constantI S_ 32 0#32)))
      (addi col (broadcastInDim S128 ![] bcast_S_S128 (constantI S_ 32 130#32))) col)

/-- The vertices a column names, of every mesh. -/
def vertices (x : FVec Ideal S16384x130x3 .f32) (col : IVec S128 32) : FVec Ideal S16384x128x3 .f32 :=
  Host.gather gather_S16384x130x3_S128x1_S16384x128x3_02_1_n_n_1_1_1638413 x (wrapped col)

/-- The lengths of the edges between the vertices two columns name. -/
def lengths (x : FVec Ideal S16384x130x3 .f32) (ca cb : IVec S128 32) : FVec Ideal S16384x128x1 .f32 :=
  Host.sqrt (broadcastInDim S16384x128x1 ![0, 1] bcast_S16384x128_S16384x128x1_0_1
    (Host.reduceAdd (mulf (subf (vertices x ca) (vertices x cb)) (subf (vertices x ca) (vertices x cb)))
      (constant S_ .f32 0x00000000#32) reducesTo_S16384x128x3_S16384x128_d2 h_S_))

/-- The gaps between these lengths in two batches. -/
def gaps (x y : FVec Ideal S16384x130x3 .f32) (ca cb : IVec S128 32) : FVec Ideal S16384x128x1 .f32 :=
  Host.absf (subf (lengths x ca cb) (lengths y ca cb))

/-- The mean of the gaps of the three edges of every face. -/
def mean (g1 g2 g3 : FVec Ideal S16384x128x1 .f32) : FVec Ideal S_ .f32 :=
  Host.divf (Host.reduceAdd
    (concatenate S16384x384x1 1 [⟨S16384x128x1, g1⟩, ⟨S16384x128x1, g2⟩, ⟨S16384x128x1, g3⟩]
      concatenates_S16384x128x1_S16384x128x1_S16384x128x1_S16384x384x1_d1)
    (constant S_ .f32 0x00000000#32) reducesTo_S16384x384x1_S_d0_1_2 h_S_) (constant S_ .f32 0x4AC00000#32)

/-- The reference is these steps. -/
theorem result_steps (m : (ℓ : Loc nD τ sig) → Buf (Elt Ideal) ℓ) (c : Dev nD) :
    Value.res_out0 m c = mean
      (gaps (m ((c.tc : Thread nD τ).loc main_arg0)) (m ((c.tc : Thread nD τ).loc main_arg1)) first second)
      (gaps (m ((c.tc : Thread nD τ).loc main_arg0)) (m ((c.tc : Thread nD τ).loc main_arg1)) first third)
      (gaps (m ((c.tc : Thread nD τ).loc main_arg0)) (m ((c.tc : Thread nD τ).loc main_arg1)) second third) := by
  unfold Value.res_out0 Value.res_main_v146
  rfl

/-! ## The look-up -/

/-- What the look-up reads at face `f`: the vertex the column names there. -/
theorem vertices_apply (x : FVec Ideal S16384x130x3 .f32) (col : IVec S128 32) (b : Fin 16384) (f : Fin 128) (k : Fin 3)
    (v : Fin 130) (hv : (wrapped col (ix2 f 0)).toInt.toNat = v.val) : vertices x col (ix3 b f k) = batchMesh x b v k := by
  unfold vertices batchMesh Host.gather
  congr 1
  funext a
  refine Fin.ext ?_
  generalize hd : gather_S16384x130x3_S128x1_S16384x128x3_02_1_n_n_1_1_1638413 = d
  show d.start (ix3 b f k) (wrapped col) a + d.batchCoord (ix3 b f k) a + d.offCoord (ix3 b f k) a = _
  subst hd
  rw [GatherDims.batchCoord_eq_zero _ _ _ List.not_mem_nil, Nat.add_zero]
  have n0 : (0 : Fin 3) ∉ gather_S16384x130x3_S128x1_S16384x128x3_02_1_n_n_1_1_1638413.startIndexMap := by decide
  have m1 : (1 : Fin 3) ∈ gather_S16384x130x3_S128x1_S16384x128x3_02_1_n_n_1_1_1638413.startIndexMap := by decide
  have n1 : (1 : Fin 3) ∉ gather_S16384x130x3_S128x1_S16384x128x3_02_1_n_n_1_1_1638413.sKept := by decide
  have n2 : (2 : Fin 3) ∉ gather_S16384x130x3_S128x1_S16384x128x3_02_1_n_n_1_1_1638413.startIndexMap := by decide
  have axes : ∀ a : Fin 3, a = 0 ∨ a = 1 ∨ a = 2 := by decide
  rcases axes a with rfl | rfl | rfl
  · rw [show GatherDims.start _ _ _ _ = 0 from dif_neg n0, Nat.zero_add]
    rfl
  · rw [GatherDims.offCoord_eq_zero _ _ _ n1, Nat.add_zero]
    have hi : GatherDims.siIdx gather_S16384x130x3_S128x1_S16384x128x3_02_1_n_n_1_1_1638413 (ix3 b f k) ⟨0, Nat.one_pos⟩ = ix2 f 0 := by
      funext e
      match e with
      | ⟨0, _⟩ => rfl
      | ⟨1, _⟩ => rfl
    refine (dif_pos m1).trans ?_
    show min (wrapped col (GatherDims.siIdx _ (ix3 b f k) ⟨0, _⟩)).toInt.toNat 129 = v.val
    rw [hi, hv]
    have := v.isLt
    omega
  · rw [show GatherDims.start _ _ _ _ = 0 from dif_neg n2, Nat.zero_add]
    rfl

/-- The first column names vertex `f`. -/
theorem first_apply (f : Fin 128) : (wrapped first (ix2 f 0)).toInt.toNat = f.castSucc.castSucc.val := by
  revert f; decide +kernel

/-- The second column names vertex `f + 1`. -/
theorem second_apply (f : Fin 128) : (wrapped second (ix2 f 0)).toInt.toNat = f.castSucc.succ.val := by
  revert f; decide +kernel

/-- The third column names vertex `f + 2`. -/
theorem third_apply (f : Fin 128) : (wrapped third (ix2 f 0)).toInt.toNat = f.succ.succ.val := by
  revert f; decide +kernel

/-! ## The value -/

/-- The length of an edge of a face. -/
theorem lengths_apply (x : FVec Ideal S16384x130x3 .f32) (ca cb : IVec S128 32) (b : Fin 16384) (f : Fin 128) (u v : Fin 130)
    (hu : (wrapped ca (ix2 f 0)).toInt.toNat = u.val) (hv : (wrapped cb (ix2 f 0)).toInt.toNat = v.val) :
    lengths x ca cb (ix3 b f 0) = edge (batchMesh x b) u v := by
  unfold lengths
  pointwise []
  simp only [vertices_apply x ca b f _ u hu, vertices_apply x cb b f _ v hv]
  rfl

/-- The gap between the lengths of an edge of a face in two batches; the reference names the edge's earlier vertex first. -/
theorem gaps_apply (x y : FVec Ideal S16384x130x3 .f32) (ca cb : IVec S128 32) (b : Fin 16384) (f : Fin 128) (u v : Fin 130)
    (hu : (wrapped ca (ix2 f 0)).toInt.toNat = u.val) (hv : (wrapped cb (ix2 f 0)).toInt.toNat = v.val) :
    gaps x y ca cb (ix3 b f 0) = gap (batchMesh x b) (batchMesh y b) v u := by
  rw [gap_comm]
  show dist (lengths x ca cb (ix3 b f 0)) (lengths y ca cb (ix3 b f 0)) = _
  rw [lengths_apply x ca cb b f u v hu hv, lengths_apply y ca cb b f u v hu hv]
  rfl

/-- A sum over three stretches of 128 positions, one after another. -/
theorem sum_three (g1 g2 g3 : Fin 128 → EReal) :
    (∑ r : Fin 384, if h : r.val < 128 then g1 ⟨r.val, h⟩
      else if h' : r.val - 128 < 128 then g2 ⟨r.val - 128, h'⟩ else g3 ⟨r.val - 128 - 128, by omega⟩)
      = ∑ f, g1 f + (∑ f, g2 f + ∑ f, g3 f) := by
  refine (Fin.sum_univ_add (a := 128) (b := 256) _).trans (congrArg₂ (· + ·) ?_
    ((Fin.sum_univ_add (a := 128) (b := 128) _).trans (congrArg₂ (· + ·) ?_ ?_)))
  · refine Finset.sum_congr rfl fun f _ => ?_
    exact dif_pos f.isLt
  · refine Finset.sum_congr rfl fun f _ => ?_
    have e : 128 + f.val - 128 = f.val := by omega
    refine (dif_neg (show ¬128 + f.val < 128 by omega)).trans ((dif_pos (show 128 + f.val - 128 < 128 by omega)).trans ?_)
    exact congrArg g2 (Fin.ext e)
  · refine Finset.sum_congr rfl fun f _ => ?_
    have e : 128 + (128 + f.val) - 128 - 128 = f.val := by omega
    refine (dif_neg (show ¬128 + (128 + f.val) < 128 by omega)).trans
      ((dif_neg (show ¬128 + (128 + f.val) - 128 < 128 by omega)).trans ?_)
    exact congrArg g3 (Fin.ext e)

/-- The divisor is the number of gaps, `16384 * 3 * 128`. -/
theorem count_eq : Ideal.ofBits FTy.f32 0x4AC00000#32 = ((6291456 : ℝ) : EReal) := by
  simp [Ideal.ofBits, Ideal.ieee, -EReal.coe_mul]
  norm_num

/-- The mean as a sum over the meshes and the faces. -/
theorem mean_eq (g1 g2 g3 : FVec Ideal S16384x128x1 .f32) :
    mean g1 g2 g3 = fun _ => (∑ b : Fin 16384, (∑ f : Fin 128, g1 (ix3 b f 0)
      + (∑ f : Fin 128, g2 (ix3 b f 0) + ∑ f : Fin 128, g3 (ix3 b f 0)))) * w := by
  unfold mean
  funext i
  pointwise []
  refine (congrArg₂ Ideal.div (Finset.sum_congr rfl fun b _ => ?_) count_eq).trans (Ideal.div_coe (by norm_num) _)
  simp only [Fin.sum_univ_one]
  exact sum_three (fun f => g1 (ix3 b f 0)) (fun f => g2 (ix3 b f 0)) (fun f => g3 (ix3 b f 0))

/-- The reference's result is the mean of the gaps between the edge lengths of the two batches' meshes. -/
theorem result_eq (m : (ℓ : Loc nD τ sig) → Buf (Elt Ideal) ℓ) (c : Dev nD) :
    Value.res_out0 m c = fun _ => meanGap (batchMesh (m ((c.tc : Thread nD τ).loc main_arg0)))
      (batchMesh (m ((c.tc : Thread nD τ).loc main_arg1))) := by
  rw [result_steps, mean_eq]
  funext _
  refine congrArg (· * w) (Finset.sum_congr rfl fun b _ => ?_)
  simp only [gaps_apply _ _ first second b _ _ _ (first_apply _) (second_apply _),
    gaps_apply _ _ first third b _ _ _ (first_apply _) (third_apply _),
    gaps_apply _ _ second third b _ _ _ (second_apply _) (third_apply _)]
  rfl

end Cert.ReferenceIdeal.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.EdgeLoss

/-- The kernel runs, leaves its arguments unchanged and every semaphore at zero. -/
theorem frame_kernel : quiescent_Kernel := fun m ρ _ => Cert.Kernel.Gen.frame m ρ

/-- So does the kernel at the ideal values. -/
theorem frame_kernelIdeal : quiescent_KernelIdeal := fun m ρ _ => Cert.KernelIdeal.Gen.frame m ρ

/-- So does the reference at the ideal values; it has no semaphore. -/
theorem frame_referenceIdeal : quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The two constants the kernel names: in bits each is the word it is printed with, at the ideal values the real number it
    stands for, one over the number of gaps and twice that. -/
theorem preserves : preserves_Kernel_KernelIdeal :=
  ⟨IdealRules.named_const.statement Cert.KernelIdeal.κ "weight" .f32 0x342AAAAB#32 ((1 / 6291456 : ℝ) : EReal) rfl,
    IdealRules.named_const.statement Cert.KernelIdeal.κ "double_weight" .f32 0x34AAAAAB#32 ((1 / 3145728 : ℝ) : EReal) rfl⟩

/-- At the ideal values the kernel and the reference, on the same two batches, return the same loss. -/
theorem algebraic : algebraic_KernelIdeal_ReferenceIdeal := fun m ρ m' ρ' _ hargs =>
  ⟨fun c _ => Cert.KernelIdeal.Value.loss m c, Cert.KernelIdeal.Value.run m ρ,
    (θ_run Cert.ReferenceIdeal.defs _ _).mono
      (fun _ h c => ⟨(h c).1.trans ((Cert.ReferenceIdeal.Loss.result_eq m' c).trans (by
          rw [(hargs c).1, (hargs c).2]
          exact funext fun _ => (Cert.KernelIdeal.Value.loss_eq m c).symm)), (h c).2⟩)
      (Cert.ReferenceIdeal.Value.run (F := Ideal) m' ρ')⟩

/-- The certificate's claims, together. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
